-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x3 : Shape := ⟨2, ![1024, 3]⟩
abbrev S65536x3 : Shape := ⟨2, ![65536, 3]⟩
abbrev S3 : Shape := ⟨1, ![3]⟩
abbrev S3x65536 : Shape := ⟨2, ![3, 65536]⟩
abbrev S_ : Shape := ⟨0, ![]⟩
abbrev S1024 : Shape := ⟨1, ![1024]⟩
abbrev S1024x1 : Shape := ⟨2, ![1024, 1]⟩
abbrev S65536 : Shape := ⟨1, ![65536]⟩
abbrev S1x65536 : Shape := ⟨2, ![1, 65536]⟩
abbrev S1024x65536 : Shape := ⟨2, ![1024, 65536]⟩
abbrev S3x2048 : Shape := ⟨2, ![3, 2048]⟩
abbrev S1x2048 : Shape := ⟨2, ![1, 2048]⟩
abbrev S1024x2048 : Shape := ⟨2, ![1024, 2048]⟩
abbrev S67108864 : Shape := ⟨1, ![67108864]⟩
abbrev S500 : Shape := ⟨1, ![500]⟩
abbrev S500x1 : Shape := ⟨2, ![500, 1]⟩
abbrev S1x3 : Shape := ⟨2, ![1, 3]⟩
abbrev S1x1024 : Shape := ⟨2, ![1, 1024]⟩
abbrev S500x1024 : Shape := ⟨2, ![500, 1024]⟩
abbrev S500x3 : Shape := ⟨2, ![500, 3]⟩
abbrev S500x2048 : Shape := ⟨2, ![500, 2048]⟩
abbrev S2048x3 : Shape := ⟨2, ![2048, 3]⟩

abbrev nBuf : Space → Nat
  | .hbm => 61
  | .vmem => 14
  | .smem => 0
  | _ => 0

abbrev bufTy : (tb : Table) → Fin (tcTables nBuf tb) → BufTy
  | .hbm, ⟨0, _⟩ => ⟨S1024x3, .f32⟩
  | .hbm, ⟨1, _⟩ => ⟨S65536x3, .f32⟩
  | .hbm, ⟨2, _⟩ => ⟨S3, .f32⟩
  | .hbm, ⟨3, _⟩ => ⟨S3x65536, .f32⟩
  | .hbm, ⟨4, _⟩ => ⟨S1024x3, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S65536x3, .f32⟩
  | .hbm, ⟨9, _⟩ => ⟨S_, .f32⟩
  | .hbm, ⟨10, _⟩ => ⟨S65536, .f32⟩
  | .hbm, ⟨11, _⟩ => ⟨S1x65536, .f32⟩
  | .hbm, ⟨12, _⟩ => ⟨S1024x65536, .f32⟩
  | .hbm, ⟨13, _⟩ => ⟨S67108864, .f32⟩
  | .hbm, ⟨14, _⟩ => ⟨S500, .f32⟩
  | .hbm, ⟨15, _⟩ => ⟨S500, .i32⟩
  | .hbm, ⟨16, _⟩ => ⟨S_, .i32⟩
  | .hbm, ⟨17, _⟩ => ⟨S_, .i32⟩
  | .hbm, ⟨18, _⟩ => ⟨S500, .i32⟩
  | .hbm, ⟨19, _⟩ => ⟨S500, .i32⟩
  | .hbm, ⟨20, _⟩ => ⟨S500, .i32⟩
  | .hbm, ⟨21, _⟩ => ⟨S_, .i32⟩
  | .hbm, ⟨22, _⟩ => ⟨S500, .i32⟩
  | .hbm, ⟨23, _⟩ => ⟨S500, .i1⟩
  | .hbm, ⟨24, _⟩ => ⟨S500, .i32⟩
  | .hbm, ⟨25, _⟩ => ⟨S500, .i32⟩
  | .hbm, ⟨26, _⟩ => ⟨S_, .i32⟩
  | .hbm, ⟨27, _⟩ => ⟨S500, .i32⟩
  | .hbm, ⟨28, _⟩ => ⟨S500, .i1⟩
  | .hbm, ⟨29, _⟩ => ⟨S500, .i1⟩
  | .hbm, ⟨30, _⟩ => ⟨S_, .i32⟩
  | .hbm, ⟨31, _⟩ => ⟨S500, .i32⟩
  | .hbm, ⟨32, _⟩ => ⟨S500, .i32⟩
  | .hbm, ⟨33, _⟩ => ⟨S500, .i32⟩
  | .hbm, ⟨34, _⟩ => ⟨S500x1, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S500, .i32⟩
  | .hbm, ⟨42, _⟩ => ⟨S500, .i32⟩
  | .hbm, ⟨43, _⟩ => ⟨S_, .i32⟩
  | .hbm, ⟨44, _⟩ => ⟨S500, .i32⟩
  | .hbm, ⟨45, _⟩ => ⟨S500, .i1⟩
  | .hbm, ⟨46, _⟩ => ⟨S_, .i32⟩
  | .hbm, ⟨47, _⟩ => ⟨S500, .i32⟩
  | .hbm, ⟨48, _⟩ => ⟨S500, .i1⟩
  | .hbm, ⟨49, _⟩ => ⟨S_, .i32⟩
  | .hbm, ⟨50, _⟩ => ⟨S_, .i1⟩
  | .hbm, ⟨51, _⟩ => ⟨S500, .i1⟩
  | .hbm, ⟨52, _⟩ => ⟨S500, .i1⟩
  | .hbm, ⟨53, _⟩ => ⟨S500, .i1⟩
  | .hbm, ⟨54, _⟩ => ⟨S500, .i32⟩
  | .hbm, ⟨55, _⟩ => ⟨S500, .i32⟩
  | .hbm, ⟨56, _⟩ => ⟨S500, .i32⟩
  | .hbm, ⟨57, _⟩ => ⟨S500x1, .i32⟩
  | .hbm, ⟨58, _⟩ => ⟨S1x3, .f32⟩
  | .hbm, ⟨59, _⟩ => ⟨S500x1, .f32⟩
  | .hbm, ⟨60, _⟩ => ⟨S500, .f32⟩
  | .local _ .vmem, ⟨0, _⟩ => ⟨S1024x3, .f32⟩
  | .local _ .vmem, ⟨1, _⟩ => ⟨S3x2048, .f32⟩
  | .local _ .vmem, ⟨2, _⟩ => ⟨S3x2048, .f32⟩
  | .local _ .vmem, ⟨3, _⟩ => ⟨S1024x1, .f32⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S500x1, .i32⟩
  | .local _ .vmem, ⟨9, _⟩ => ⟨S500x1, .i32⟩
  | .local _ .vmem, ⟨10, _⟩ => ⟨S1024x3, .f32⟩
  | .local _ .vmem, ⟨11, _⟩ => ⟨S65536x3, .f32⟩
  | .local _ .vmem, ⟨12, _⟩ => ⟨S1x3, .f32⟩
  | .local _ .vmem, ⟨13, _⟩ => ⟨S500x1, .f32⟩
  | _, _ => ⟨S1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_values : Ref sig .tc := ⟨.hbm, 14, rfl⟩
abbrev main_indices : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

@[reducible] def k1_t1_loop : Scf.Loop 32 :=
  let c0_i32 : BitVec 32 := 0#32
  let c32_i32 : BitVec 32 := 32#32
  let v11 : BitVec 32 := Scalar.addi c0_i32 c32_i32
  let c1_i32 : BitVec 32 := 1#32
  ⟨c0_i32, v11, c1_i32⟩
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c2048_i32 : BitVec 32 := 2048#32
  let v22 : BitVec 32 := Scalar.muli arg6 c2048_i32
  let v33 : Index := Scalar.indexCast v22
  let c0_12 : Index := 0#32
  ![v33.toNat, 0]
abbrev stage1_0 : Fin 1 → Memref sig .tc .vmem S500x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S500x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S65536x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S500x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
-- ==== ReferenceIdeal.lean ====
abbrev S1024x3 : Shape := ⟨2, ![1024, 3]⟩
abbrev S65536x3 : Shape := ⟨2, ![65536, 3]⟩
abbrev S3 : Shape := ⟨1, ![3]⟩
abbrev S_ : Shape := ⟨0, ![]⟩
abbrev S1024 : Shape := ⟨1, ![1024]⟩
abbrev S1024x1 : Shape := ⟨2, ![1024, 1]⟩
abbrev S65536 : Shape := ⟨1, ![65536]⟩
abbrev S1x65536 : Shape := ⟨2, ![1, 65536]⟩
abbrev S3x65536 : Shape := ⟨2, ![3, 65536]⟩
abbrev S1024x65536 : Shape := ⟨2, ![1024, 65536]⟩
abbrev S67108864 : Shape := ⟨1, ![67108864]⟩
abbrev S500 : Shape := ⟨1, ![500]⟩
abbrev S500x1 : Shape := ⟨2, ![500, 1]⟩
abbrev S500x3 : Shape := ⟨2, ![500, 3]⟩
abbrev S1 : Shape := ⟨1, ![1]⟩

abbrev nBuf : Space → Nat
  | .hbm => 110
  | .vmem => 0
  | .smem => 0
  | _ => 0

abbrev bufTy : (tb : Table) → Fin (tcTables nBuf tb) → BufTy
  | .hbm, ⟨0, _⟩ => ⟨S1024x3, .f32⟩
  | .hbm, ⟨1, _⟩ => ⟨S65536x3, .f32⟩
  | .hbm, ⟨2, _⟩ => ⟨S3, .f32⟩
  | .hbm, ⟨3, _⟩ => ⟨S1024x3, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S65536x3, .f32⟩
  | .hbm, ⟨8, _⟩ => ⟨S_, .f32⟩
  | .hbm, ⟨9, _⟩ => ⟨S65536, .f32⟩
  | .hbm, ⟨10, _⟩ => ⟨S1x65536, .f32⟩
  | .hbm, ⟨11, _⟩ => ⟨S3x65536, .f32⟩
  | .hbm, ⟨12, _⟩ => ⟨S1024x65536, .f32⟩
  | .hbm, ⟨13, _⟩ => ⟨S1024x65536, .f32⟩
  | .hbm, ⟨14, _⟩ => ⟨S1024x65536, .f32⟩
  | .hbm, ⟨15, _⟩ => ⟨S1024x65536, .f32⟩
  | .hbm, ⟨16, _⟩ => ⟨S_, .f32⟩
  | .hbm, ⟨17, _⟩ => ⟨S1024x65536, .f32⟩
  | .hbm, ⟨18, _⟩ => ⟨S1024x65536, .f32⟩
  | .hbm, ⟨19, _⟩ => ⟨S1024x65536, .f32⟩
  | .hbm, ⟨20, _⟩ => ⟨S_, .f32⟩
  | .hbm, ⟨21, _⟩ => ⟨S1024x65536, .f32⟩
  | .hbm, ⟨22, _⟩ => ⟨S1024x65536, .f32⟩
  | .hbm, ⟨23, _⟩ => ⟨S1024x65536, .f32⟩
  | .hbm, ⟨24, _⟩ => ⟨S67108864, .f32⟩
  | .hbm, ⟨25, _⟩ => ⟨S67108864, .f32⟩
  | .hbm, ⟨26, _⟩ => ⟨S500, .f32⟩
  | .hbm, ⟨27, _⟩ => ⟨S500, .i32⟩
  | .hbm, ⟨28, _⟩ => ⟨S_, .i32⟩
  | .hbm, ⟨29, _⟩ => ⟨S_, .i32⟩
  | .hbm, ⟨30, _⟩ => ⟨S500, .i32⟩
  | .hbm, ⟨31, _⟩ => ⟨S500, .i32⟩
  | .hbm, ⟨32, _⟩ => ⟨S500, .i32⟩
  | .hbm, ⟨33, _⟩ => ⟨S_, .i32⟩
  | .hbm, ⟨34, _⟩ => ⟨S500, .i32⟩
  | .hbm, ⟨35, _⟩ => ⟨S500, .i1⟩
  | .hbm, ⟨36, _⟩ => ⟨S500, .i32⟩
  | .hbm, ⟨37, _⟩ => ⟨S500, .i32⟩
  | .hbm, ⟨38, _⟩ => ⟨S_, .i32⟩
  | .hbm, ⟨39, _⟩ => ⟨S500, .i32⟩
  | .hbm, ⟨40, _⟩ => ⟨S500, .i1⟩
  | .hbm, ⟨41, _⟩ => ⟨S500, .i1⟩
  | .hbm, ⟨42, _⟩ => ⟨S_, .i32⟩
  | .hbm, ⟨43, _⟩ => ⟨S500, .i32⟩
  | .hbm, ⟨44, _⟩ => ⟨S500, .i32⟩
  | .hbm, ⟨45, _⟩ => ⟨S500, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S500, .i32⟩
  | .hbm, ⟨53, _⟩ => ⟨S500, .i32⟩
  | .hbm, ⟨54, _⟩ => ⟨S_, .i32⟩
  | .hbm, ⟨55, _⟩ => ⟨S500, .i32⟩
  | .hbm, ⟨56, _⟩ => ⟨S500, .i1⟩
  | .hbm, ⟨57, _⟩ => ⟨S_, .i32⟩
  | .hbm, ⟨58, _⟩ => ⟨S500, .i32⟩
  | .hbm, ⟨59, _⟩ => ⟨S500, .i1⟩
  | .hbm, ⟨60, _⟩ => ⟨S_, .i32⟩
  | .hbm, ⟨61, _⟩ => ⟨S_, .i1⟩
  | .hbm, ⟨62, _⟩ => ⟨S500, .i1⟩
  | .hbm, ⟨63, _⟩ => ⟨S500, .i1⟩
  | .hbm, ⟨64, _⟩ => ⟨S500, .i1⟩
  | .hbm, ⟨65, _⟩ => ⟨S500, .i32⟩
  | .hbm, ⟨66, _⟩ => ⟨S500, .i32⟩
  | .hbm, ⟨67, _⟩ => ⟨S500, .i32⟩
  | .hbm, ⟨68, _⟩ => ⟨S_, .i32⟩
  | .hbm, ⟨69, _⟩ => ⟨S500, .i32⟩
  | .hbm, ⟨70, _⟩ => ⟨S500, .i1⟩
  | .hbm, ⟨71, _⟩ => ⟨S_, .i32⟩
  | .hbm, ⟨72, _⟩ => ⟨S500, .i32⟩
  | .hbm, ⟨73, _⟩ => ⟨S500, .i32⟩
  | .hbm, ⟨74, _⟩ => ⟨S500, .i32⟩
  | .hbm, ⟨75, _⟩ => ⟨S500x1, .i32⟩
  | .hbm, ⟨76, _⟩ => ⟨S500x3, .f32⟩
  | .hbm, ⟨77, _⟩ => ⟨S_, .i32⟩
  | .hbm, ⟨78, _⟩ => ⟨S500, .i32⟩
  | .hbm, ⟨79, _⟩ => ⟨S500, .i1⟩
  | .hbm, ⟨80, _⟩ => ⟨S_, .i32⟩
  | .hbm, ⟨81, _⟩ => ⟨S500, .i32⟩
  | .hbm, ⟨82, _⟩ => ⟨S500, .i32⟩
  | .hbm, ⟨83, _⟩ => ⟨S500, .i32⟩
  | .hbm, ⟨84, _⟩ => ⟨S500x1, .i32⟩
  | .hbm, ⟨85, _⟩ => ⟨S500x3, .f32⟩
  | .hbm, ⟨86, _⟩ => ⟨S500x3, .f32⟩
  | .hbm, ⟨87, _⟩ => ⟨S1, .f32⟩
  | .hbm, ⟨88, _⟩ => ⟨S_, .f32⟩
  | .hbm, ⟨89, _⟩ => ⟨S500x1, .f32⟩
  | .hbm, ⟨90, _⟩ => ⟨S500, .f32⟩
  | .hbm, ⟨91, _⟩ => ⟨S500, .f32⟩
  | .hbm, ⟨92, _⟩ => ⟨S500, .f32⟩
  | .hbm, ⟨93, _⟩ => ⟨S500, .f32⟩
  | .hbm, ⟨94, _⟩ => ⟨S1, .f32⟩
  | .hbm, ⟨95, _⟩ => ⟨S_, .f32⟩
  | .hbm, ⟨96, _⟩ => ⟨S500x1, .f32⟩
  | .hbm, ⟨97, _⟩ => ⟨S500, .f32⟩
  | .hbm, ⟨98, _⟩ => ⟨S500, .f32⟩
  | .hbm, ⟨99, _⟩ => ⟨S500, .f32⟩
  | .hbm, ⟨100, _⟩ => ⟨S500, .f32⟩
  | .hbm, ⟨101, _⟩ => ⟨S500, .f32⟩
  | .hbm, ⟨102, _⟩ => ⟨S1, .f32⟩
  | .hbm, ⟨103, _⟩ => ⟨S_, .f32⟩
  | .hbm, ⟨104, _⟩ => ⟨S500x1, .f32⟩
  | .hbm, ⟨105, _⟩ => ⟨S500, .f32⟩
  | .hbm, ⟨106, _⟩ => ⟨S500, .f32⟩
  | .hbm, ⟨107, _⟩ => ⟨S500, .f32⟩
  | .hbm, ⟨108, _⟩ => ⟨S500, .f32⟩
  | .hbm, ⟨109, _⟩ => ⟨S500, .f32⟩
  | _, _ => ⟨S1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_values : Ref sig .tc := ⟨.hbm, 26, rfl⟩
abbrev main_indices : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v19 : Ref sig .tc := ⟨.hbm, 45, rfl⟩
abbrev main_c_3 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v20 : Ref sig .tc := ⟨.hbm, 67, rfl⟩
abbrev main_c_4 : Ref sig .tc := ⟨.hbm, 68, rfl⟩
abbrev main_v21 : Ref sig .tc := ⟨.hbm, 69, rfl⟩
abbrev main_v22 : Ref sig .tc := ⟨.hbm, 70, rfl⟩
abbrev main_c_5 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_c_6 : Ref sig .tc := ⟨.hbm, 77, rfl⟩
abbrev main_v28 : Ref sig .tc := ⟨.hbm, 78, rfl⟩
abbrev main_v29 : Ref sig .tc := ⟨.hbm, 79, rfl⟩
abbrev main_c_7 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩

abbrev nD : Nat := 1
abbrev τ : Topo := Topo.v7x

variable {F : FTy → Type} [FloatOps F]
-- ==== Proof.Run.lean ====
/- The run of the kernel program over the extended reals, read at its result.
   The program is two kernel calls among stretches of host operations. Every fair run ends, and a buffer that outlives
   the run then holds what the last of the boundary contents says (`W9`). Here that is read at the result buffer and at
   the three arguments. -/
module

public import proofs.«01_k».proof.Proof.Gen.KernelIdeal.Frame
public import Idealize.ShloMosaic.Adequacy
public import Idealize.ShloMosaic.Init

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair run of the program ends; on each device the result buffer then holds what the last boundary contents say,
    and each argument holds what it held at the start. -/
theorem run : θ_run defs (onTc (τ := τ) (main (F := F))) ⟨m, fun _ => 0, ρ⟩ (fun r => ∀ c : Dev nD,
      r.2.mem ((c.tc : Thread nD τ).loc main_v15) = W9 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v15 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.Value

end
-- ==== Proof.Dist.lean ====
/- The first kernel call: what its result array holds.
   A grid point writes one block of 2048 columns; the blocks tile the array. An entry is minus the square root of the
   larger of a small literal and `|a|² + |b|² - 2 a·b`, of the entry's row `a` of the first operand and column `b` of
   the second. -/
module

public import proofs.«01_k».proof.Proof.Gen.KernelIdeal.Frame
public import Idealize.ShloMosaic.Lib.Pipeline.ValueKit
public import Idealize.ShloMosaic.Lib.Pointwise
public import Idealize.ShloMosaic.Lib.ValueIdx

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Minus the distance of row `r` of `A` and column `q` of `B`, from the squared norms `na` and `nb`. -/
def negDist (A : S1024x3.Idx → EReal) (B : S3x65536.Idx → EReal) (na : S1024x1.Idx → EReal) (nb : S1x65536.Idx → EReal)
    (r : Fin 1024) (q : Fin 65536) : EReal :=
  0 - Ideal.sqrt (max (na (ix2 r 0) + nb (ix2 0 q)
    - Ideal.ofBits FTy.f32 1073741824#32 * ∑ x : Fin 3, A (ix2 r x) * B (ix2 x q)) (Ideal.ofBits FTy.f32 730643660#32))

/-- The block a grid point computes, at an index. -/
theorem pay_apply (x0 : Vec Ideal S1024x3 .f32) (x1 : Vec Ideal S3x2048 .f32) (x2 : Vec Ideal S1024x1 .f32)
    (x3 : Vec Ideal S1x2048 .f32) (r : Fin 1024) (q : Fin 2048) :
    k0_pay1 (F := Ideal) x0 x1 x2 x3 (ix2 r q)
      = 0 - Ideal.sqrt (max (x2 (ix2 r 0) + x3 (ix2 0 q)
          - Ideal.ofBits FTy.f32 1073741824#32 * ∑ x : Fin 3, x0 (ix2 r x) * x1 (ix2 x q)) (Ideal.ofBits FTy.f32 730643660#32)) := by
  unfold k0_pay1
  pointwise

/-- Where each window's block lies at each grid point. -/
theorem idx0 : ∀ t : Fin cfg0.N, win0_0.index t = ![0, 0] ∧ win0_1.index t = ![0, t.val] ∧ win0_2.index t = ![0, 0]
    ∧ win0_3.index t = ![0, t.val] ∧ win0_4.index t = ![0, t.val] := by decide +kernel

/-- The column of the whole array at place `q` of point `t`'s block. -/
def col (t : Fin cfg0.N) (q : Fin 2048) : Fin 65536 :=
  ⟨t.val * 2048 + q.val, by have h : t.val < 32 := lt_of_lt_of_eq t.isLt N_0; omega⟩

/-- The first operand's block is the whole operand. -/
theorem read0 (c : Dev nD) (t : Fin cfg0.N) (r : Fin 1024) (x : Fin 3) :
    iblk0 V c 0 t (ix2 r x) = V c main_arg0 (ix2 r x) := by
  unfold iblk0; blk_ext [idx0 t]

/-- The second operand's block is a run of columns. -/
theorem read1 (c : Dev nD) (t : Fin cfg0.N) (x : Fin 3) (q : Fin 2048) :
    iblk0 V c 1 t (ix2 x q) = V c main_v0 (ix2 x (col t q)) := by
  unfold iblk0 col; blk_ext [idx0 t]

/-- The third operand's block is the whole operand. -/
theorem read2 (c : Dev nD) (t : Fin cfg0.N) (r : Fin 1024) :
    iblk0 V c 2 t (ix2 r 0) = V c main_v3 (ix2 r 0) := by
  unfold iblk0; blk_ext [idx0 t]

/-- The fourth operand's block is a run of columns. -/
theorem read3 (c : Dev nD) (t : Fin cfg0.N) (q : Fin 2048) :
    iblk0 V c 3 t (ix2 0 q) = V c main_v6 (ix2 0 (col t q)) := by
  unfold iblk0 col; blk_ext [idx0 t]

/-- Where a place of the result's block lies in the result array. -/
theorem emb4 (t : Fin cfg0.N) (r : Fin 1024) (q : Fin 2048) :
    ((View.whole main_v7).slice (win0_4.rect t)).emb (ix2 r q) = ix2 r (col t q) := by
  unfold col; blk_ext [idx0 t]

/-- The first call's result array, at the end: every entry minus a distance. -/
theorem dist_final (c : Dev nD) :
    (dat0 V c).arrAt 4 cfg0.N
      = fun i : S1024x65536.Idx => negDist (V c main_arg0) (V c main_v0) (V c main_v3) (V c main_v6) (i 0) (i 1) := by
  refine (dat0 V c).arrAt_eq_of_covers 4 _ (by decide +kernel) fun t hf y => ?_
  blk_simp
  rw [after0_4]
  frame_out
  obtain ⟨r, q, rfl⟩ : ∃ (r : Fin 1024) (q : Fin 2048), y = ix2 r q :=
    ⟨y 0, y 1, funext fun a => by match a with | ⟨0, _⟩ => rfl | ⟨1, _⟩ => rfl⟩
  refine (pay_apply _ _ _ _ r q).trans ?_
  rw [emb4 t r q]
  unfold negDist
  simp only [read0, read1, read2, read3]
  rfl

end Cert.KernelIdeal.Value

end
-- ==== Proof.Host.lean ====
/- The host operations before and between the two kernel calls, and the reference's distances: the array of negated
   distances is the same array in both programs, and both take the places of its largest entries. -/
module

public import proofs.«01_k».proof.Proof.Dist
public import proofs.«01_k».proof.Proof.Gen.ReferenceIdeal.Run
public import Idealize.ShloMosaic.Lib.StableHlo.Run
public import Idealize.ShloMosaic.Lib.Routing.OpsSearch
public import Idealize.ShloMosaic.Lib.Tactic

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The squared norms of the rows of the first argument, as a column. -/
def normA (A : Vec Ideal S1024x3 .f32) : Vec Ideal S1024x1 .f32 :=
  broadcastInDim S1024x1 ![0] bcast_S1024_S1024x1_0
    (Host.reduceAdd (mulf A A) (constant (F := Ideal) S_ .f32 0x00000000#32) reducesTo_S1024x3_S1024_d1 h_S_)

/-- The squared norms of the rows of the second argument, as a row. -/
def normB (B : Vec Ideal S65536x3 .f32) : Vec Ideal S1x65536 .f32 :=
  broadcastInDim S1x65536 ![1] bcast_S65536_S1x65536_1
    (Host.reduceAdd (mulf B B) (constant (F := Ideal) S_ .f32 0x00000000#32) reducesTo_S65536x3_S65536_d1 h_S_)

/-- The array of negated distances of the rows of `A` from the rows of `B`. -/
def negDists (A : Vec Ideal S1024x3 .f32) (B : Vec Ideal S65536x3 .f32) : Vec Ideal S1024x65536 .f32 :=
  fun i => negDist A (transpose S3x65536 [1, 0] B transposes_S65536x3_S3x65536_1_0) (normA A) (normB B) (i 0) (i 1)

/-- The places of the 500 largest entries of an array of this size, laid out flat. -/
def topPlaces (D : Vec Ideal S1024x65536 .f32) : IVec S500 32 :=
  (Host.topK S500 0 (FloatOps.cmpfTotal (F := Ideal) (φ := .f32) .gt) (shapeCast S67108864 D shapeCasts_S1024x65536_S67108864) sliceFits_S67108864_S500).2

/-- The first call's second operand: the second argument, transposed. -/
theorem entry_v0 (c : Dev nD) : V1 m ρ c main_v0 = transpose S3x65536 [1, 0] (m ((c.tc : Thread nD τ).loc main_arg1)) transposes_S65536x3_S3x65536_1_0 := by
  show W1 m ρ c (Proc.devRef .tc main_v0) = _
  unfold W1 hostOps0; after_results_simp

/-- The first call's third operand: the norms of the first argument's rows. -/
theorem entry_v3 (c : Dev nD) : V1 m ρ c main_v3 = normA (m ((c.tc : Thread nD τ).loc main_arg0)) := by
  show W1 m ρ c (Proc.devRef .tc main_v3) = _
  unfold W1 hostOps0; after_results_simp
  rfl

/-- The first call's fourth operand: the norms of the second argument's rows. -/
theorem entry_v6 (c : Dev nD) : V1 m ρ c main_v6 = normB (m ((c.tc : Thread nD τ).loc main_arg1)) := by
  show W1 m ρ c (Proc.devRef .tc main_v6) = _
  unfold W1 hostOps0; after_results_simp
  rfl

/-- After the first call its result array holds the negated distances of the arguments' rows. -/
theorem dists (c : Dev nD) :
    W2 m ρ c (Proc.devRef .tc main_v7) = negDists (m ((c.tc : Thread nD τ).loc main_arg0)) (m ((c.tc : Thread nD τ).loc main_arg1)) := by
  refine (hF0 m ρ c 4).symm.trans ((dist_final (V1 m ρ) c).trans ?_)
  rw [entry_v0, entry_v3, entry_v6, show V1 m ρ c main_arg0 = m ((c.tc : Thread nD τ).loc main_arg0) from W1_args m ρ c _ (by decide)]
  rfl

/-- The places the kernel program picks. -/
theorem places (c : Dev nD) :
    W3 m ρ c (Proc.devRef .tc main_indices)
      = topPlaces (negDists (m ((c.tc : Thread nD τ).loc main_arg0)) (m ((c.tc : Thread nD τ).loc main_arg1))) := by
  unfold W3 hostOps1; after_results_simp
  exact congrArg topPlaces (dists m ρ c)

/-- The first called function is a division rounding down. -/
theorem stretch1_1 (W : Valuation τ sig (Elt Ideal)) :
    after hostOps1_1 W (Proc.devRef .tc main_v9) = Routing.pyDiv (by decide) (W (Proc.devRef .tc main_indices)) (W (Proc.devRef .tc main_c)) := by
  unfold hostOps1_1; after_results_simp
  simp only [TRef.ofBuf_toBuf]
  rfl

/-- The second called function is the remainder of that division. -/
theorem stretch1_3 (W : Valuation τ sig (Elt Ideal)) :
    after hostOps1_3 W (Proc.devRef .tc main_v11) = Routing.pyRem (by decide) (W (Proc.devRef .tc main_indices)) (W (Proc.devRef .tc main_c_1)) := by
  unfold hostOps1_3; after_results_simp
  simp only [TRef.ofBuf_toBuf]
  rfl

/-- The divisor. -/
theorem c3 (c : Dev nD) : W3 m ρ c (Proc.devRef .tc main_c) = constantI S_ 32 65536#32 := by
  unfold W3 hostOps1; after_results_simp
/-- The remainder's divisor. -/
theorem c5 (c : Dev nD) : W5 m ρ c (Proc.devRef .tc main_c_1) = constantI S_ 32 65536#32 := by
  unfold W5 hostOps1_2; after_results_simp

/-- The first column of words the second call gets. -/
theorem entry_v10 (c : Dev nD) : V7 m ρ c main_v10
    = shapeCast S500x1 (Routing.pyDiv (s := S500) (by decide) (W3 m ρ c (Proc.devRef .tc main_indices)) (constantI S_ 32 65536#32)) shapeCasts_S500_S500x1 := by
  refine (W7_of m ρ c main_v10 (by decide)).trans ((W6_of m ρ c main_v10 (by decide)).trans ?_)
  have h : W5 m ρ c (Proc.devRef .tc main_v10) = shapeCast S500x1 (W4 m ρ c (Proc.devRef .tc main_v9)) shapeCasts_S500_S500x1 := by
    unfold W5 hostOps1_2; after_results_simp; rfl
  rw [h, ← c3 m ρ c]
  exact congrArg (fun X => shapeCast S500x1 X shapeCasts_S500_S500x1) (stretch1_1 (W3 m ρ c))

/-- The second column of words the second call gets. -/
theorem entry_v12 (c : Dev nD) : V7 m ρ c main_v12
    = shapeCast S500x1 (Routing.pyRem (s := S500) (by decide) (W3 m ρ c (Proc.devRef .tc main_indices)) (constantI S_ 32 65536#32)) shapeCasts_S500_S500x1 := by
  have h : W7 m ρ c (Proc.devRef .tc main_v12) = shapeCast S500x1 (W6 m ρ c (Proc.devRef .tc main_v11)) shapeCasts_S500_S500x1 := by
    unfold W7 hostOps1_4; after_results_simp; rfl
  have hi : W5 m ρ c (Proc.devRef .tc main_indices) = W3 m ρ c (Proc.devRef .tc main_indices) :=
    (W5_of m ρ c main_indices (by decide)).trans (W4_of m ρ c main_indices (by decide))
  refine h.trans ?_
  rw [← hi, ← c5 m ρ c]
  exact congrArg (fun X => shapeCast S500x1 X shapeCasts_S500_S500x1) (stretch1_3 (W5 m ρ c))

/-- The row of weights the second call gets. -/
theorem entry_v13 (c : Dev nD) : V7 m ρ c main_v13
    = shapeCast S1x3 (m ((c.tc : Thread nD τ).loc main_arg2)) shapeCasts_S3_S1x3 := by
  have h : W7 m ρ c (Proc.devRef .tc main_v13) = shapeCast S1x3 (W6 m ρ c (Proc.devRef .tc main_arg2)) shapeCasts_S3_S1x3 := by
    unfold W7 hostOps1_4; after_results_simp; rfl
  refine h.trans ?_
  rw [show W6 m ρ c (Proc.devRef .tc main_arg2) = m ((c.tc : Thread nD τ).loc main_arg2) from W6_args m ρ c _ (by decide)]

/-- What the program returns: the second call's result array, laid out flat. -/
theorem result_v15 (c : Dev nD) : W9 m ρ c (Proc.devRef .tc main_v15)
    = shapeCast S500 (W8 m ρ c (Proc.devRef .tc main_v14)) shapeCasts_S500x1_S500 := by
  unfold W9 hostOps2; after_results_simp; rfl

/-- A sort moves entries: an entry of the sorted second array is some entry of that array. -/
theorem sort2_snd_mem (s : Shape) (d : Nat) {α β : Type} (cmp : α × β → α × β → BitVec 1) (x : s.Idx → α) (y : s.Idx → β)
    (i : s.Idx) : ∃ i', (Host.sort2 s d cmp x y).2 i = y i' := by
  unfold Host.sort2
  split
  · exact ⟨_, rfl⟩
  · exact ⟨i, rfl⟩

/-- Of an array with one axis, the places of the largest entries are words of numbers below the array's length. -/
theorem topK_word {α : Type} (n : Nat) (t : Shape) (gt : α → α → BitVec 1) (x : (⟨1, ![n]⟩ : Shape).Idx → α)
    (h : (⟨1, ![n]⟩ : Shape).Slices (fun _ => 0) t) (j : t.Idx) :
    ∃ k : Nat, k < n ∧ (Host.topK t 0 gt x h).2 j = BitVec.ofNat 32 k := by
  obtain ⟨i, hi⟩ : ∃ i : (⟨1, ![n]⟩ : Shape).Idx, (Host.topK t 0 gt x h).2 j
      = if hd : 0 < (⟨1, ![n]⟩ : Shape).rank then iotaInDim ⟨1, ![n]⟩ 32 ⟨0, hd⟩ i else 0#32 :=
    sort2_snd_mem ⟨1, ![n]⟩ 0 (fun l r => gt l.1 r.1) x
      (fun i => if hd : 0 < (⟨1, ![n]⟩ : Shape).rank then iotaInDim ⟨1, ![n]⟩ 32 ⟨0, hd⟩ i else 0#32)
      (fun a => ⟨0 + (j (a.cast h.1.symm)).val, Nat.lt_of_lt_of_le (Nat.add_lt_add_left (j _).isLt _) (h.2 a)⟩)
  exact ⟨(i 0).val, (i 0).isLt, hi⟩

/-- Each place is the word of a number below the array's length. -/
theorem topPlaces_word (D : Vec Ideal S1024x65536 .f32) (j : S500.Idx) :
    ∃ k : Nat, k < 67108864 ∧ topPlaces D j = BitVec.ofNat 32 k :=
  topK_word 67108864 S500 _ _ _ j

end Cert.KernelIdeal.Value

namespace Cert.ReferenceIdeal.Value
open Cert.ReferenceIdeal Cert.ReferenceIdeal.Gen
open Idealize.ShloMosaic Idealize.ShloMosaic.TcCoe Idealize.SL.Sem
open Idealize.ShloMosaic.StableHlo

/-- A change of shape moves entries only, so it may follow a negation. -/
theorem negf_shapeCast {s t : Shape} (x : FVec Ideal s .f32) (h : s.ShapeCasts t) :
    Host.negf (shapeCast t x h) = shapeCast t (Host.negf x) h := rfl

/-- The reference's negated distances are the kernel's. -/
theorem ref_dists (V0 : Valuation τ sig (Elt Ideal)) :
    res_main_v18 V0 = shapeCast S67108864
      (Cert.KernelIdeal.Value.negDists (V0 (Proc.devRef .tc main_arg0)) (V0 (Proc.devRef .tc main_arg1))) shapeCasts_S1024x65536_S67108864 := by
  unfold res_main_v18
  generalize V0 (Proc.devRef .tc main_arg0) = A
  generalize V0 (Proc.devRef .tc main_arg1) = B
  refine (negf_shapeCast _ _).trans (congrArg (fun X => shapeCast S67108864 X shapeCasts_S1024x65536_S67108864) (funext fun i => ?_))
  obtain ⟨r, q, rfl⟩ : ∃ (r : Fin 1024) (q : Fin 65536), i = ix2 r q :=
    ⟨i 0, i 1, funext fun a => by match a with | ⟨0, _⟩ => rfl | ⟨1, _⟩ => rfl⟩
  show _ = Cert.KernelIdeal.Value.negDist A _ _ _ r q
  unfold Cert.KernelIdeal.Value.negDist Cert.KernelIdeal.Value.normA Cert.KernelIdeal.Value.normB
  pointwise
  exact (zero_sub _).symm

/-- The reference's picked places are the kernel's. -/
theorem ref_places (V0 : Valuation τ sig (Elt Ideal)) :
    res_main_indices V0 = Cert.KernelIdeal.Value.topPlaces
      (Cert.KernelIdeal.Value.negDists (V0 (Proc.devRef .tc main_arg0)) (V0 (Proc.devRef .tc main_arg1))) := by
  unfold res_main_indices Cert.KernelIdeal.Value.topPlaces
  rw [ref_dists]

/-- The reference's row numbers: the places divided by 65536, rounding down. -/
theorem ref_v19 (V0 : Valuation τ sig (Elt Ideal)) :
    res_main_v19 V0 = Routing.pyDiv (s := S500) (by decide) (res_main_indices V0) (constantI S_ 32 65536#32) := by
  unfold res_main_v19 res_main_call0_v2 res_main_call0_v0; rfl

/-- The reference's column numbers: the places' remainders by 65536. -/
theorem ref_v20 (V0 : Valuation τ sig (Elt Ideal)) :
    res_main_v20 V0 = Routing.pyRem (s := S500) (by decide) (res_main_indices V0) (constantI S_ 32 65536#32) := by
  unfold res_main_v20 res_main_call1_v4 res_main_call1_v2 res_main_call1_v0; rfl

end Cert.ReferenceIdeal.Value

end
-- ==== Proof.OneHot.lean ====
/- Rows picked by sums. A matrix whose rows are zero but for a one, at the place named by a word, picks by its product
   with an array the row of that place. The second kernel call picks so the rows of the first argument at once, and
   those of the second argument tile by tile: only the tile that holds the row contributes. -/
module

public import proofs.«01_k».proof.Proof.Gen.KernelIdeal.Frame
public import Idealize.ShloMosaic.Lib.Pointwise
public import Idealize.ShloMosaic.Lib.ValueIdx
public import Idealize.ShloMosaic.Lib.WordCmp

@[expose] public section

set_option maxRecDepth 16384

noncomputable section

namespace Cert.KernelIdeal.Value

open Cert.KernelIdeal Cert.KernelIdeal.Gen
open Idealize.ShloMosaic Idealize.ShloMosaic.TcCoe Idealize.SL.Sem

/-- Two words compared for equality, the outcome read as a number: one if the numbers agree, else zero. -/
theorem hot_word (a b : Nat) (ha : a < 2 ^ 32) (hb : b < 2 ^ 32) :
    FloatOps.sitofp (F := Ideal) FTy.f32 (BitVec.setWidth 32 (IntOp.cmpi .eq (BitVec.ofNat 32 a) (BitVec.ofNat 32 b)))
      = (if a = b then (1 : EReal) else 0) := by
  by_cases h : a = b
  · subst h
    rw [if_pos rfl, show IntOp.cmpi .eq (BitVec.ofNat 32 a) (BitVec.ofNat 32 a) = 1#1 by simp [IntOp.cmpi]]
    show ((((BitVec.setWidth 32 1#1).toInt : ℝ)) : EReal) = 1
    rw [show (BitVec.setWidth 32 1#1).toInt = 1 by decide]; simp
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h, show IntOp.cmpi .eq (BitVec.ofNat 32 a) (BitVec.ofNat 32 b) = 0#1 by
      show BitVec.ofBool (BitVec.ofNat 32 a == BitVec.ofNat 32 b) = 0#1
      rw [beq_eq_false_iff_ne.mpr hne]; rfl]
    show ((((BitVec.setWidth 32 0#1).toInt : ℝ)) : EReal) = 0
    rw [show (BitVec.setWidth 32 0#1).toInt = 0 by decide]; simp

/-- A sum with the one weight at `a - o`, if that is a place of the sum, is the entry there; else it is zero. -/
theorem hot_sum {n : Nat} (a o : Nat) (f : Fin n → EReal) :
    ∑ x : Fin n, (if a = o + x.val then (1 : EReal) else 0) * f x
      = if h : o ≤ a ∧ a < o + n then f ⟨a - o, by omega⟩ else 0 := by
  split
  · rename_i h
    rw [Finset.sum_eq_single (⟨a - o, by omega⟩ : Fin n)]
    · rw [if_pos (by dsimp only; omega), one_mul]
    · intro x _ hx
      rw [if_neg (fun e => hx (Fin.ext (by dsimp only; omega))), zero_mul]
    · intro hx; exact absurd (Finset.mem_univ _) hx
  · rename_i h
    refine Finset.sum_eq_zero fun x _ => ?_
    have := x.isLt
    rw [if_neg (by omega), zero_mul]

/-- The places that trip `k` compares with. -/
theorem place_word (k x : Nat) :
    IntOp.addi (BitVec.ofNat 32 x) (Scalar.muli (Scf.iv 0#32 1#32 k) 2048#32) = BitVec.ofNat 32 (k * 2048 + x) := by
  show BitVec.ofNat 32 x + ((0#32 + BitVec.ofNat 32 k * 1#32) * 2048#32) = _
  apply BitVec.eq_of_toNat_eq
  simp only [BitVec.toNat_add, BitVec.toNat_mul, BitVec.toNat_ofNat]
  omega

/-- One trip adds, at each entry, the picked row's entry if the trip's tile holds the row. -/
theorem pay2_apply (k : Fin k1_t1_loop.trips) (hk : k.val < 32) (t : FVec Ideal S500x3 .f32) (w : Vec Ideal S500x1 .i32) (b : Vec Ideal S2048x3 .f32)
    (r : Fin 500) (q : Fin 3) (a : Nat) (ha : a < 65536) (hw : w (ix2 r 0) = BitVec.ofNat 32 a) :
    k1_pay2 (F := Ideal) k t w b (ix2 r q)
      = t (ix2 r q) + if h : k.val * 2048 ≤ a ∧ a < k.val * 2048 + 2048 then b (ix2 (⟨a - k.val * 2048, by omega⟩ : Fin 2048) q) else 0 := by
  rw [← hot_sum a (k.val * 2048) (fun x : Fin 2048 => b (ix2 x q))]
  unfold k1_pay2
  pointwise
  refine congrArg (fun z => t (ix2 r q) + z) (Finset.sum_congr rfl fun x _ => ?_)
  have hx := x.isLt
  rw [hw, place_word, hot_word _ _ (by omega) (by omega)]

/-- After all the trips each entry is the picked row's. -/
theorem trips_apply (st : Nat → FVec Ideal S500x3 .f32) (w : Vec Ideal S500x1 .i32) (B : Vec Ideal S65536x3 .f32)
    (tile : Fin k1_t1_loop.trips → Vec Ideal S2048x3 .f32) (h0 : st 0 = k1_pay1 (F := Ideal))
    (hs : ∀ k : Fin k1_t1_loop.trips, st (k.val + 1) = k1_pay2 (F := Ideal) k (st k.val) w (tile k))
    (ht : ∀ (k : Fin k1_t1_loop.trips) (x : Fin 2048) (q : Fin 3) (h : k.val * 2048 + x.val < 65536),
      tile k (ix2 x q) = B (ix2 (⟨k.val * 2048 + x.val, h⟩ : Fin 65536) q))
    (r : Fin 500) (q : Fin 3) (a : Fin 65536) (hw : w (ix2 r 0) = BitVec.ofNat 32 a.val) :
    st 32 (ix2 r q) = B (ix2 a q) := by
  have hN : k1_t1_loop.trips = 32 := by decide
  have key : ∀ n ≤ 32, st n (ix2 r q) = if a.val < n * 2048 then B (ix2 a q) else 0 := by
    intro n
    induction n with
    | zero =>
      intro _
      rw [h0, if_neg (by omega)]
      unfold k1_pay1
      pointwise
    | succ n ih =>
      intro hn
      have e := hs ⟨n, by omega⟩
      dsimp only at e
      rw [e, pay2_apply ⟨n, by omega⟩ (by dsimp only; omega) _ _ _ r q a.val a.isLt hw, ih (by omega)]
      dsimp only
      by_cases h1 : a.val < n * 2048
      · rw [if_pos h1, dif_neg (by omega), if_pos (by omega), add_zero]
      · rw [if_neg h1, zero_add]
        by_cases h2 : a.val < (n + 1) * 2048
        · rw [dif_pos (by omega), if_pos h2, ht _ _ _ (by dsimp only; omega)]
          refine congrArg (fun z => B (ix2 z q)) (Fin.ext ?_)
          dsimp only; omega
        · rw [dif_neg (by omega), if_neg h2]
  rw [key 32 le_rfl, if_pos (by omega)]

/-- The weighted distance of the picked rows of `A` and `v`. -/
theorem pay3_apply (w : Vec Ideal S500x1 .i32) (A : Vec Ideal S1024x3 .f32) (v : FVec Ideal S500x3 .f32) (g : Vec Ideal S1x3 .f32)
    (r : Fin 500) (a : Fin 1024) (hw : w (ix2 r 0) = BitVec.ofNat 32 a.val) :
    k1_pay3 (F := Ideal) w A v g (ix2 r 0)
      = ∑ q : Fin 3, FloatOps.absf (F := Ideal) (φ := .f32) (A (ix2 a q) - v (ix2 r q)) * g (ix2 0 q) := by
  unfold k1_pay3
  pointwise
  refine Finset.sum_congr rfl fun q _ => ?_
  refine congrArg (fun z => FloatOps.absf (F := Ideal) (φ := .f32) (z - v (ix2 r q)) * g (ix2 0 q)) ?_
  have e := hot_sum a.val 0 (fun x : Fin 1024 => A (ix2 x q))
  rw [dif_pos (by omega)] at e
  refine Eq.trans (Finset.sum_congr rfl fun x _ => ?_) e
  have hx := x.isLt
  have ha := a.isLt
  rw [hw, hot_word _ _ (by omega) (by omega), Nat.zero_add]

end Cert.KernelIdeal.Value

end
-- ==== Proof.Gather.lean ====
/- The second kernel call: what its result array holds. -/
module

public import proofs.«01_k».proof.Proof.OneHot
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The offset of a load of a whole matrix is zero along both axes. -/
theorem hz2 : (![0, 0] : Fin 2 → Nat) = fun _ => 0 := funext fun a => by fin_cases a <;> rfl

/-- The weighted distance of row `a` of `A` and row `b` of `B`, coordinate by coordinate. -/
def wdist (A : S1024x3.Idx → EReal) (B : S65536x3.Idx → EReal) (g : S1x3.Idx → EReal) (a : Fin 1024) (b : Fin 65536) : EReal :=
  ∑ q : Fin 3, FloatOps.absf (F := Ideal) (φ := .f32) (A (ix2 a q) - B (ix2 b q)) * g (ix2 0 q)

section Body
variable (c : Dev nD) (arg0 : Memref sig .tc .vmem S500x1 .i32) (harg0 : arg0.IsWhole) (arg1 : Memref sig .tc .vmem S500x1 .i32) (harg1 : arg1.IsWhole) (arg2 : Memref sig .tc .vmem S1024x3 .f32) (harg2 : arg2.IsWhole) (arg3 : Memref sig .tc .vmem S65536x3 .f32) (harg3 : arg3.IsWhole) (arg4 : Memref sig .tc .vmem S1x3 .f32) (harg4 : arg4.IsWhole) (arg5 : Memref sig .tc .vmem S500x1 .f32) (harg5 : arg5.IsWhole)

/-- A trip of the loop adds one tile's products, of the words and the tile's rows as the operands hold them. -/
theorem trip_eq (𝒱 : Variants) (bd : Option 𝒱.V) (x1 : Vec Ideal S500x1 .i32) (x3 : Vec Ideal S65536x3 .f32)
    (k : Fin k1_t1_loop.trips) (acc : FVec Ideal S500x3 .f32) :
    tripR_k1_t1 (F := Ideal) 𝒱 c bd arg0 harg0 arg1 harg1 arg2 harg2 arg3 harg3 arg4 harg4 arg5 harg5 (harg1.unread x1) (harg3.unread x3) k acc
      = k1_pay2 k acc x1 (View.ld x3 (Rect.unit (s := S65536x3) (k1_off1 k) S2048x3.size (k1_off1_inb k))) := by
  unfold tripR_k1_t1 trip_k1_t1
  dsimp only
  rw [View.readAt_eq_ld, View.readAt_eq_ld, harg1.read_unread, harg3.read_unread, View.ld_unit_zero (S := S500x1) hz2]

/-- The body's result, in terms of the operands and of the loop's sum after its 32 trips. -/
theorem out_eq (x0 : Vec Ideal S500x1 .i32) (x1 : Vec Ideal S500x1 .i32) (x2 : Vec Ideal S1024x3 .f32) (x3 : Vec Ideal S65536x3 .f32) (x4 : Vec Ideal S1x3 .f32) :
    out1_A_5 (F := Ideal) c arg0 harg0 arg1 harg1 arg2 harg2 arg3 harg3 arg4 harg4 arg5 harg5 x0 x1 x2 x3 x4
      = k1_pay3 x0 x2 (st_k1_t1 (F := Ideal) Variants.none c none arg0 harg0 arg1 harg1 arg2 harg2 arg3 harg3 arg4 harg4 arg5 harg5 (harg1.unread x1) (harg3.unread x3) (k1_pay1 (F := Ideal)) 32) x4 := by
  unfold out1_A_5
  rw [View.read_writes_eq_canon _ _ _ (cover1_A_5 c arg0 harg0 arg1 harg1 arg2 harg2 arg3 harg3 arg4 harg4 arg5 harg5 x0 x1 x2 x3 x4)]
  unfold kernelRun1_A
  dsimp only
  rw [View.canon_unit_zero hz2]
  simp only [View.readAt_eq_ld, harg0.read_unread, harg2.read_unread, harg4.read_unread]
  rw [View.ld_unit_zero (S := S500x1) hz2, View.ld_unit_zero (S := S1024x3) hz2, View.ld_unit_zero (S := S1x3) hz2,
    show Scf.trips (0#32) (Scalar.addi 0#32 32#32) 1#32 = 32 by decide]

/-- Where each trip's load starts. -/
theorem off_eq : ∀ k : Fin k1_t1_loop.trips, k1_off1 k = ![k.val * 2048, 0] := by decide +kernel

/-- A trip's load reads the rows of its tile. -/
theorem tile_apply (x3 : Vec Ideal S65536x3 .f32) (k : Fin k1_t1_loop.trips) (x : Fin 2048) (q : Fin 3) (h : k.val * 2048 + x.val < 65536) :
    View.ld x3 (Rect.unit (s := S65536x3) (k1_off1 k) S2048x3.size (k1_off1_inb k)) (ix2 x q)
      = x3 (ix2 (⟨k.val * 2048 + x.val, h⟩ : Fin 65536) q) := by
  have e0 : k1_off1 k 0 = k.val * 2048 := by rw [off_eq]; rfl
  have e1 : k1_off1 k 1 = 0 := by rw [off_eq]; rfl
  unfold View.ld
  refine congrArg x3 (funext fun a => Fin.ext ?_)
  match a with
  | ⟨0, _⟩ =>
    show k1_off1 k 0 + 1 * x.val = k.val * 2048 + x.val
    rw [e0, Nat.one_mul]
  | ⟨1, _⟩ =>
    show k1_off1 k 1 + 1 * q.val = q.val
    rw [e1, Nat.one_mul, Nat.zero_add]

/-- The body's result at an index: the weighted distance of the two rows that the words name. -/
theorem out_apply (x0 : Vec Ideal S500x1 .i32) (x1 : Vec Ideal S500x1 .i32) (x2 : Vec Ideal S1024x3 .f32) (x3 : Vec Ideal S65536x3 .f32) (x4 : Vec Ideal S1x3 .f32)
    (r : Fin 500) (a : Fin 1024) (b : Fin 65536) (ha : x0 (ix2 r 0) = BitVec.ofNat 32 a.val) (hb : x1 (ix2 r 0) = BitVec.ofNat 32 b.val) :
    out1_A_5 (F := Ideal) c arg0 harg0 arg1 harg1 arg2 harg2 arg3 harg3 arg4 harg4 arg5 harg5 x0 x1 x2 x3 x4 (ix2 r 0)
      = wdist x2 x3 x4 a b := by
  unfold wdist
  rw [out_eq, pay3_apply _ _ _ _ r a ha]
  refine Finset.sum_congr rfl fun q _ => ?_
  rw [trips_apply (st_k1_t1 (F := Ideal) Variants.none c none arg0 harg0 arg1 harg1 arg2 harg2 arg3 harg3 arg4 harg4 arg5 harg5 (harg1.unread x1) (harg3.unread x3) (k1_pay1 (F := Ideal)))
    x1 x3 _ (st_k1_t1_zero ..) (fun k => (st_k1_t1_succ ..).trans (trip_eq ..)) (tile_apply x3) r q b hb]
end Body

/-- Where each window's block lies. -/
theorem idx1 : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] := by decide +kernel

/-- The first operand's block is the whole operand. -/
theorem gread0 (c : Dev nD) (t : Fin cfg1.N) (r : Fin 500) : iblk1 V c 0 t (ix2 r 0) = V c main_v10 (ix2 r 0) := by
  unfold iblk1; blk_ext [idx1 t]

/-- The second operand's block is the whole operand. -/
theorem gread1 (c : Dev nD) (t : Fin cfg1.N) (r : Fin 500) : iblk1 V c 1 t (ix2 r 0) = V c main_v12 (ix2 r 0) := by
  unfold iblk1; blk_ext [idx1 t]

/-- The third operand's block is the whole operand. -/
theorem gread2 (c : Dev nD) (t : Fin cfg1.N) (p : Fin 1024) (q : Fin 3) : iblk1 V c 2 t (ix2 p q) = V c main_arg0 (ix2 p q) := by
  unfold iblk1; blk_ext [idx1 t]

/-- The fourth operand's block is the whole operand. -/
theorem gread3 (c : Dev nD) (t : Fin cfg1.N) (p : Fin 65536) (q : Fin 3) : iblk1 V c 3 t (ix2 p q) = V c main_arg1 (ix2 p q) := by
  unfold iblk1; blk_ext [idx1 t]

/-- The fifth operand's block is the whole operand. -/
theorem gread4 (c : Dev nD) (t : Fin cfg1.N) (q : Fin 3) : iblk1 V c 4 t (ix2 0 q) = V c main_v13 (ix2 0 q) := by
  unfold iblk1; blk_ext [idx1 t]

/-- The result's block is the whole result. -/
theorem gemb5 (t : Fin cfg1.N) (r : Fin 500) : ((View.whole main_v14).slice (win1_5.rect t)).emb (ix2 r 0) = ix2 r 0 := by
  blk_ext [idx1 t]

/-- The second call's result array, at the end: each entry the weighted distance of the rows its two words name. -/
theorem gather_final (c : Dev nD) (a : S500x1.Idx → Fin 1024) (b : S500x1.Idx → Fin 65536)
    (ha : ∀ i, V c main_v10 i = BitVec.ofNat 32 (a i).val) (hb : ∀ i, V c main_v12 i = BitVec.ofNat 32 (b i).val) :
    (dat1 V c).arrAt 5 cfg1.N
      = fun i : S500x1.Idx => wdist (V c main_arg0) (V c main_arg1) (V c main_v13) (a i) (b i) := by
  refine (dat1 V c).arrAt_eq_of_covers 5 _ (by decide +kernel) fun t hf y => ?_
  blk_simp
  rw [after1_5]
  obtain ⟨r, rfl⟩ : ∃ r : Fin 500, y = ix2 r 0 :=
    ⟨y 0, funext fun a => by match a with | ⟨0, _⟩ => rfl | ⟨1, _⟩ => exact Subsingleton.elim (α := Fin 1) _ _⟩
  unfold outsAt1
  rw [gemb5 t r]
  refine (out_apply c _ _ _ _ _ _ _ _ _ _ _ _ _ _ _ _ _ r (a (ix2 r 0)) (b (ix2 r 0)) ((gread0 V c t r).trans (ha _)) ((gread1 V c t r).trans (hb _))).trans ?_
  unfold wdist
  simp only [gread2, gread3, gread4]

end Cert.KernelIdeal.Value

end
-- ==== Proof.Result.lean ====
/- Both programs' results: entry by entry the weighted distance of the two rows that a picked place names. -/
module

public import proofs.«01_k».proof.Proof.Host
public import proofs.«01_k».proof.Proof.Gather
public import Idealize.ShloMosaic.Lib.Routing.OpsPair

@[expose] public section

set_option maxRecDepth 16384

noncomputable section

namespace Cert.KernelIdeal.Value

open Cert.KernelIdeal Cert.KernelIdeal.Gen
open Idealize.ShloMosaic Idealize.ShloMosaic.TcCoe Idealize.SL.Sem
open Idealize.ShloMosaic.StableHlo

variable (m : (ℓ : Loc nD τ sig) → Buf (Elt Ideal) ℓ) (ρ : Dev nD → PrngReg)

/-- The row of the first argument that a place of the flat distance array names. -/
def rowOf (k : Nat) (h : k < 67108864) : Fin 1024 := ⟨k / 65536, by omega⟩

/-- The row of the second argument that a place of the flat distance array names. -/
def colOf (k : Nat) : Fin 65536 := ⟨k % 65536, by omega⟩

/-- The weighted distances at the picked places. -/
def picked (A : Vec Ideal S1024x3 .f32) (B : Vec Ideal S65536x3 .f32) (g : Vec Ideal S3 .f32)
    (k : Fin 500 → Nat) (hk : ∀ r, k r < 67108864) : Vec Ideal S500 .f32 :=
  fun j => wdist A B (shapeCast S1x3 g shapeCasts_S3_S1x3) (rowOf (k (j 0)) (hk (j 0))) (colOf (k (j 0)))

/-- A column of words, made of a list of words, at an index. -/
theorem column_apply (x : IVec S500 32) (i : S500x1.Idx) : shapeCast S500x1 x shapeCasts_S500_S500x1 i = x (ix1 (i 0)) := by
  obtain ⟨r, rfl⟩ : ∃ r : Fin 500, i = ix2 r 0 :=
    ⟨i 0, funext fun a => by match a with | ⟨0, _⟩ => rfl | ⟨1, _⟩ => exact Subsingleton.elim (α := Fin 1) _ _⟩
  pointwise

/-- What the kernel program returns. -/
theorem kernel_result (c : Dev nD) (k : Fin 500 → Nat) (hk : ∀ r, k r < 67108864)
    (hw : ∀ r, topPlaces (negDists (m ((c.tc : Thread nD τ).loc main_arg0)) (m ((c.tc : Thread nD τ).loc main_arg1))) (ix1 r)
      = BitVec.ofNat 32 (k r)) :
    W9 m ρ c (Proc.devRef .tc main_v15)
      = picked (m ((c.tc : Thread nD τ).loc main_arg0)) (m ((c.tc : Thread nD τ).loc main_arg1)) (m ((c.tc : Thread nD τ).loc main_arg2)) k hk := by
  have hq : ∀ r, W3 m ρ c (Proc.devRef .tc main_indices) (ix1 r) = BitVec.ofNat 32 (k r) := fun r => by
    rw [places]; exact hw r
  rw [result_v15, show W8 m ρ c (Proc.devRef .tc main_v14) = (dat1 (V7 m ρ) c).arrAt 5 cfg1.N from (hF1 m ρ c 5).symm]
  rw [gather_final (V7 m ρ) c (fun i => rowOf (k (i 0)) (hk (i 0))) (fun i => colOf (k (i 0)))]
  · funext j
    obtain ⟨r, rfl⟩ : ∃ r : Fin 500, j = ix1 r := ⟨j 0, funext fun a => by match a with | ⟨0, _⟩ => rfl⟩
    rw [entry_v13, show V7 m ρ c main_arg0 = m ((c.tc : Thread nD τ).loc main_arg0) from W7_args m ρ c _ (by decide),
      show V7 m ρ c main_arg1 = m ((c.tc : Thread nD τ).loc main_arg1) from W7_args m ρ c _ (by decide)]
    unfold picked
    pointwise
  · intro i
    rw [entry_v10, column_apply]
    exact Routing.pyDiv_ap _ _ _ _ (hq _) rfl (by have := hk (i 0); omega) (by decide) (by decide)
  · intro i
    rw [entry_v12, column_apply]
    exact Routing.pyRem_ap _ _ _ _ (hq _) rfl (by have := hk (i 0); omega) (by decide) (by decide)

end Cert.KernelIdeal.Value

namespace Cert.ReferenceIdeal.Value
open Cert.ReferenceIdeal Cert.ReferenceIdeal.Gen
open Idealize.ShloMosaic Idealize.ShloMosaic.TcCoe Idealize.SL.Sem
open Idealize.ShloMosaic.StableHlo
open Cert.KernelIdeal.Value (topPlaces negDists picked rowOf colOf wdist)

/-- A coordinate of the difference of row `a` of `A` and row `b` of `B`. -/
def diffAt (A : S1024x3.Idx → EReal) (B : S65536x3.Idx → EReal) (a : Fin 1024) (b : Fin 65536) (q : Fin 3) : EReal :=
  A (ix2 a q) - B (ix2 b q)

/-- The difference of the two rows that each picked place names, as the reference computes it. -/
theorem ref_diff (V0 : Valuation τ sig (Elt Ideal)) (k : Fin 500 → Nat) (hk : ∀ r, k r < 67108864)
    (hw : ∀ r, topPlaces (negDists (V0 (Proc.devRef .tc main_arg0)) (V0 (Proc.devRef .tc main_arg1))) (ix1 r) = BitVec.ofNat 32 (k r))
    (r : Fin 500) (q : Fin 3) :
    (res_main_v35 V0 : S500x3.Idx → EReal) (ix2 r q)
      = diffAt (V0 (Proc.devRef .tc main_arg0)) (V0 (Proc.devRef .tc main_arg1)) (rowOf (k r) (hk r)) (colOf (k r)) q := by
  have hr := hk r
  have h19 : res_main_v19 V0 (ix1 r) = BitVec.ofNat 32 (k r / 65536) := by
    rw [ref_v19]
    exact Routing.pyDiv_ap _ _ _ _ (by rw [ref_places]; exact hw r) rfl (by omega) (by decide) (by decide)
  have h20 : res_main_v20 V0 (ix1 r) = BitVec.ofNat 32 (k r % 65536) := by
    rw [ref_v20]
    exact Routing.pyRem_ap _ _ _ _ (by rw [ref_places]; exact hw r) rfl (by omega) (by decide) (by decide)
  unfold res_main_v35
  generalize res_main_v19 V0 = x at *
  generalize res_main_v20 V0 = y at *
  refine congrArg₂ (fun a b : EReal => a - b) ?_ ?_
  · refine Routing.gather_row _ rfl rfl rfl rfl rfl _ _ r q (rowOf (k r) (hk r)) ?_ (by decide)
    show _ = BitVec.ofNat 32 (k r / 65536)
    pointwise
    rw [Routing.wrap_of_lt _ _ (by rw [h19, BitVec.toNat_ofNat]; omega), h19]
  · refine Routing.gather_row _ rfl rfl rfl rfl rfl _ _ r q (colOf (k r)) ?_ (by decide)
    show _ = BitVec.ofNat 32 (k r % 65536)
    pointwise
    rw [Routing.wrap_of_lt _ _ (by rw [h20, BitVec.toNat_ofNat]; omega), h20]

/-- The reference's result, a sum over the three coordinates, of the arguments `V0` holds. -/
theorem ref_result (V0 : Valuation τ sig (Elt Ideal)) (k : Fin 500 → Nat) (hk : ∀ r, k r < 67108864)
    (hw : ∀ r, topPlaces (negDists (V0 (Proc.devRef .tc main_arg0)) (V0 (Proc.devRef .tc main_arg1))) (ix1 r) = BitVec.ofNat 32 (k r)) :
    addf (addf (mulf (broadcastInDim S500 ![] bcast_S_S500 (shapeCast _ (extractStridedSlice S1 ![0] (V0 (Proc.devRef .tc main_arg2)) slices_S3_S1_0) shapeCasts_S1_S_)) (Host.absf (shapeCast _ (extractStridedSlice S500x1 ![0, 0] (res_main_v35 V0) slices_S500x3_S500x1_0_0) shapeCasts_S500x1_S500))) (mulf (broadcastInDim S500 ![] bcast_S_S500 (shapeCast _ (extractStridedSlice S1 ![1] (V0 (Proc.devRef .tc main_arg2)) slices_S3_S1_1) shapeCasts_S1_S_)) (Host.absf (shapeCast _ (extractStridedSlice S500x1 ![0, 1] (res_main_v35 V0) slices_S500x3_S500x1_0_1) shapeCasts_S500x1_S500)))) (mulf (broadcastInDim S500 ![] bcast_S_S500 (shapeCast _ (extractStridedSlice S1 ![2] (V0 (Proc.devRef .tc main_arg2)) slices_S3_S1_2) shapeCasts_S1_S_)) (Host.absf (shapeCast _ (extractStridedSlice S500x1 ![0, 2] (res_main_v35 V0) slices_S500x3_S500x1_0_2) shapeCasts_S500x1_S500)))
      = picked (V0 (Proc.devRef .tc main_arg0)) (V0 (Proc.devRef .tc main_arg1)) (V0 (Proc.devRef .tc main_arg2)) k hk := by
  funext j
  obtain ⟨r, rfl⟩ : ∃ r : Fin 500, j = ix1 r := ⟨j 0, funext fun a => by match a with | ⟨0, _⟩ => rfl⟩
  have hd := ref_diff V0 k hk hw r
  generalize res_main_v35 V0 = D at *
  generalize V0 (Proc.devRef .tc main_arg0) = A at *
  generalize V0 (Proc.devRef .tc main_arg1) = B at *
  generalize V0 (Proc.devRef .tc main_arg2) = g at *
  unfold picked wdist
  rw [Fin.sum_univ_three]
  pointwise
  rw [hd 0, hd 1, hd 2]
  exact congrArg₂ (fun a b : EReal => a + b)
    (congrArg₂ (fun a b : EReal => a + b) (mul_comm (G := EReal) _ _) (mul_comm (G := EReal) _ _)) (mul_comm (G := EReal) _ _)

end Cert.ReferenceIdeal.Value

end
-- ==== Proof.lean ====
/- The claims about the two programs, put together: each program's run ends and leaves its arguments as they were, the
   kernel read over the extended reals is the kernel as written, and over the extended reals the kernel and the reference
   return the same array. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Result
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem
open Cert.KernelIdeal.Value (topPlaces topPlaces_word negDists picked)

/-- Every fair run of the kernel, on machine words, ends, its arguments unchanged and its semaphores at zero. -/
theorem frame_kernel : Cert.quiescent_Kernel := fun m ρ _ => Cert.Kernel.Gen.frame m ρ

/-- Every fair run of the kernel, over the extended reals, ends, its arguments unchanged and its semaphores at zero. -/
theorem frame_kernelIdeal : Cert.quiescent_KernelIdeal := fun m ρ _ => Cert.KernelIdeal.Gen.frame m ρ

/-- Every run of the reference ends, its arguments unchanged; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- From memories that agree on the arguments the kernel and the reference, over the extended reals, return the same array:
    the weighted distances at the picked places. -/
theorem same_results : Cert.algebraic_KernelIdeal_ReferenceIdeal := by
  intro m ρ m' ρ' _ hagree
  have hw : ∀ (c : Dev Cert.KernelIdeal.nD) (r : Fin 500), ∃ k : Nat, k < 67108864 ∧
      topPlaces (negDists (m ((c.tc : Thread Cert.KernelIdeal.nD Cert.KernelIdeal.τ).loc Cert.KernelIdeal.main_arg0))
        (m ((c.tc : Thread Cert.KernelIdeal.nD Cert.KernelIdeal.τ).loc Cert.KernelIdeal.main_arg1))) (ix1 r) = BitVec.ofNat 32 k :=
    fun c r => topPlaces_word _ _
  choose k hk hw using hw
  refine ⟨fun c => picked (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (k c) (hk c), ?_, ?_⟩
  · exact (θ_run Cert.KernelIdeal.defs _ _).mono
      (fun _ h c => ⟨(h c).1.trans (Cert.KernelIdeal.Value.kernel_result m ρ c (k c) (hk c) (hw c)), (h c).2⟩)
      (Cert.KernelIdeal.Value.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2⟩ := hagree c
    have a0 : StableHlo.launchContents m' c (Proc.devRef .tc Cert.ReferenceIdeal.main_arg0)
        = m ((c.tc : Thread Cert.KernelIdeal.nD Cert.KernelIdeal.τ).loc Cert.KernelIdeal.main_arg0) := e0
    have a1 : StableHlo.launchContents m' c (Proc.devRef .tc Cert.ReferenceIdeal.main_arg1)
        = m ((c.tc : Thread Cert.KernelIdeal.nD Cert.KernelIdeal.τ).loc Cert.KernelIdeal.main_arg1) := e1
    have a2 : StableHlo.launchContents m' c (Proc.devRef .tc Cert.ReferenceIdeal.main_arg2)
        = m ((c.tc : Thread Cert.KernelIdeal.nD Cert.KernelIdeal.τ).loc Cert.KernelIdeal.main_arg2) := e2
    refine (Cert.ReferenceIdeal.Value.ref_result (StableHlo.launchContents m' c) (k c) (hk c) ?_).trans ?_
    · rw [a0, a1]
      exact hw c
    · rw [a0, a1, a2]

/-- The whole claim. -/
theorem claim : Cert.Claim := ⟨Cert.Kernel.Gen.facts, Cert.KernelIdeal.Gen.facts, Cert.ReferenceIdeal.Gen.facts,
  frame_kernel, frame_kernelIdeal, frame_reference, trivial, same_results⟩

end Cert.Proof

end
